-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_unwrapped [hPre_ids_unwrapped : Cert.Pre_ids_unwrapped.Facts] (m : (ℓ : Loc Cert.KernelIdeal.nD Cert.KernelIdeal.τ Cert.KernelIdeal.sig) → Buf (Elt Ideal) ℓ) : Prop :=
  ∀ c : Dev Cert.KernelIdeal.nD,
    (Cert.Pre_ids_unwrapped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_unwrapped [hPre_ids_unwrapped : Cert.Pre_ids_unwrapped.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_unwrapped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ids_unwrapped [hKernelIdeal : Cert.KernelIdeal.Facts] [hPre_ids_unwrapped : Cert.Pre_ids_unwrapped.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_unwrapped m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ids_unwrapped [hReferenceIdeal : Cert.ReferenceIdeal.Facts] [hPre_ids_unwrapped : Cert.Pre_ids_unwrapped.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_unwrapped m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_ids_unwrapped [hKernelIdeal : Cert.KernelIdeal.Facts] [hReferenceIdeal : Cert.ReferenceIdeal.Facts] [hPre_ids_unwrapped : Cert.Pre_ids_unwrapped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_unwrapped m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ids_unwrapped : Cert.Pre_ids_unwrapped.Facts),
    quiescent_Kernel (hKernel := hKernel)
    ∧ quiescent_KernelIdeal (hKernelIdeal := hKernelIdeal)
    ∧ quiescent_KernelIdeal_pre_ids_unwrapped (hKernelIdeal := hKernelIdeal) (hPre_ids_unwrapped := hPre_ids_unwrapped)
    ∧ quiescent_ReferenceIdeal (hReferenceIdeal := hReferenceIdeal)
    ∧ quiescent_ReferenceIdeal_pre_ids_unwrapped (hReferenceIdeal := hReferenceIdeal) (hPre_ids_unwrapped := hPre_ids_unwrapped)
    ∧ preserves_Kernel_KernelIdeal
    ∧ algebraic_KernelIdeal_ReferenceIdeal_pre_ids_unwrapped (hKernelIdeal := hKernelIdeal) (hReferenceIdeal := hReferenceIdeal) (hPre_ids_unwrapped := hPre_ids_unwrapped)
-- ==== Pre_ids_unwrapped.lean ====
abbrev S32x2048 : Shape := ⟨2, ![32, 2048]⟩
abbrev S2 : Shape := ⟨1, ![2]⟩
abbrev S_ : Shape := ⟨0, ![]⟩

class Facts : Prop where
  bcast_S_S32x2048 : S_.BroadcastsInDim S32x2048 (![] : Fin 0 → Fin S32x2048.rank)

variable [Facts]

def fn {F : FTy → Type} [FloatOps F] (main_arg0 : IVec S32x2048 32) (main_arg1 : IVec S32x2048 1) (main_arg2 : FVec F S2 .f32) : IVec S32x2048 1 :=
  let main_c : IVec S_ 32 := constantI S_ 32 0#32
  let main_v0 : IVec S32x2048 32 := broadcastInDim S32x2048 ![] bcast_S_S32x2048 main_c
  let main_v1 : IVec S32x2048 1 := cmpi .sge main_arg0 main_v0
  let main_c_0 : IVec S_ 32 := constantI S_ 32 4294966296#32
  let main_v2 : IVec S32x2048 32 := broadcastInDim S32x2048 ![] bcast_S_S32x2048 main_c_0
  let main_v3 : IVec S32x2048 1 := cmpi .slt main_arg0 main_v2
  let main_v4 : IVec S32x2048 1 := ori main_v1 main_v3
  main_v4
-- ==== Kernel.lean ====
abbrev S32x2048 : Shape := ⟨2, ![32, 2048]⟩
abbrev S2 : Shape := ⟨1, ![2]⟩
abbrev S32x1x2048 : Shape := ⟨3, ![32, 1, 2048]⟩
abbrev S32x2048x1 : Shape := ⟨3, ![32, 2048, 1]⟩
abbrev S32x2048x1000 : Shape := ⟨3, ![32, 2048, 1000]⟩
abbrev S1x512x1 : Shape := ⟨3, ![1, 512, 1]⟩
abbrev S1x1x2048 : Shape := ⟨3, ![1, 1, 2048]⟩
abbrev S1x512x1000 : Shape := ⟨3, ![1, 512, 1000]⟩
abbrev S1 : Shape := ⟨1, ![1]⟩
abbrev S1x1x1x2048 : Shape := ⟨4, ![1, 1, 1, 2048]⟩
abbrev S1x1x1x1 : Shape := ⟨4, ![1, 1, 1, 1]⟩
abbrev S512x1 : Shape := ⟨2, ![512, 1]⟩
abbrev S1x1 : Shape := ⟨2, ![1, 1]⟩
abbrev S511x1 : Shape := ⟨2, ![511, 1]⟩
abbrev S512x1000 : Shape := ⟨2, ![512, 1000]⟩

abbrev nBuf : Space → Nat
  | .hbm => 7
  | .vmem => 8
  | .smem => 1
  | _ => 0

abbrev bufTy : (tb : Table) → Fin (tcTables nBuf tb) → BufTy
  | .hbm, ⟨0, _⟩ => ⟨S32x2048, .i32⟩
  | .hbm, ⟨1, _⟩ => ⟨S32x2048, .i1⟩
  | .hbm, ⟨2, _⟩ => ⟨S2, .f32⟩
  | .hbm, ⟨3, _⟩ => ⟨S32x2048, .i32⟩
  | .hbm, ⟨4, _⟩ => ⟨S32x1x2048, .i32⟩
  | .hbm, ⟨5, _⟩ => ⟨S32x2048x1, .i32⟩
  | .hbm, ⟨6, _⟩ => ⟨S32x2048x1000, .f32⟩
  | .local _ .vmem, ⟨0, _⟩ => ⟨S1x512x1, .i32⟩
  | .local _ .vmem, ⟨1, _⟩ => ⟨S1x512x1, .i32⟩
  | .local _ .vmem, ⟨2, _⟩ => ⟨S1x512x1, .i32⟩
  | .local _ .vmem, ⟨3, _⟩ => ⟨S1x512x1, .i32⟩
  | .local _ .vmem, ⟨4, _⟩ => ⟨S1x1x2048, .i32⟩
  | .local _ .vmem, ⟨5, _⟩ => ⟨S1x1x2048, .i32⟩
  | .local _ .vmem, ⟨6, _⟩ => ⟨S1x512x1000, .f32⟩
  | .local _ .vmem, ⟨7, _⟩ => ⟨S1x512x1000, .f32⟩
  | .local _ .smem, ⟨0, _⟩ => ⟨S2, .f32⟩
  | _, _ => ⟨S32x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c3_i32 : BitVec 32 := 3#32
  let v1 : BitVec 32 := Scalar.minsi v0 c3_i32
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S32x2048 : Shape := ⟨2, ![32, 2048]⟩
abbrev S2 : Shape := ⟨1, ![2]⟩
abbrev S_ : Shape := ⟨0, ![]⟩
abbrev S32 : Shape := ⟨1, ![32]⟩
abbrev S2048 : Shape := ⟨1, ![2048]⟩
abbrev S1x2048 : Shape := ⟨2, ![1, 2048]⟩
abbrev S32x2047 : Shape := ⟨2, ![32, 2047]⟩
abbrev S32x1 : Shape := ⟨2, ![32, 1]⟩
abbrev S1 : Shape := ⟨1, ![1]⟩
abbrev S32x2048x1000 : Shape := ⟨3, ![32, 2048, 1000]⟩
abbrev S32x2048x1 : Shape := ⟨3, ![32, 2048, 1]⟩
abbrev S32x2048x3 : Shape := ⟨3, ![32, 2048, 3]⟩

abbrev nBuf : Space → Nat
  | .hbm => 64
  | .vmem => 0
  | .smem => 0
  | _ => 0

abbrev bufTy : (tb : Table) → Fin (tcTables nBuf tb) → BufTy
  | .hbm, ⟨0, _⟩ => ⟨S32x2048, .i32⟩
  | .hbm, ⟨1, _⟩ => ⟨S32x2048, .i1⟩
  | .hbm, ⟨2, _⟩ => ⟨S2, .f32⟩
  | .hbm, ⟨3, _⟩ => ⟨S32x2048, .i32⟩
  | .hbm, ⟨4, _⟩ => ⟨S_, .i32⟩
  | .hbm, ⟨5, _⟩ => ⟨S32, .i32⟩
  | .hbm, ⟨6, _⟩ => ⟨S2048, .i32⟩
  | .hbm, ⟨7, _⟩ => ⟨S1x2048, .i32⟩
  | .hbm, ⟨8, _⟩ => ⟨S32x2048, .i32⟩
  | .hbm, ⟨9, _⟩ => ⟨S32x2047, .i32⟩
  | .hbm, ⟨10, _⟩ => ⟨S_, .i32⟩
  | .hbm, ⟨11, _⟩ => ⟨S32x1, .i32⟩
  | .hbm, ⟨12, _⟩ => ⟨S32x2048, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32x1, .i32⟩
  | .hbm, ⟨17, _⟩ => ⟨S32x2048, .i32⟩
  | .hbm, ⟨18, _⟩ => ⟨S32x2048, .i1⟩
  | .hbm, ⟨19, _⟩ => ⟨S_, .i32⟩
  | .hbm, ⟨20, _⟩ => ⟨S_, .i32⟩
  | .hbm, ⟨21, _⟩ => ⟨S32x2048, .i32⟩
  | .hbm, ⟨22, _⟩ => ⟨S32x2048, .i32⟩
  | .hbm, ⟨23, _⟩ => ⟨S32x2048, .i32⟩
  | .hbm, ⟨24, _⟩ => ⟨S32x2048, .i1⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S_, .f32⟩
  | .hbm, ⟨29, _⟩ => ⟨S32x2048, .f32⟩
  | .hbm, ⟨30, _⟩ => ⟨S32x2048, .f32⟩
  | .hbm, ⟨31, _⟩ => ⟨S32x2048, .f32⟩
  | .hbm, ⟨32, _⟩ => ⟨S1, .f32⟩
  | .hbm, ⟨33, _⟩ => ⟨S_, .f32⟩
  | .hbm, ⟨34, _⟩ => ⟨S32x2048x1000, .f32⟩
  | .hbm, ⟨35, _⟩ => ⟨S32, .i32⟩
  | .hbm, ⟨36, _⟩ => ⟨S32x1, .i32⟩
  | .hbm, ⟨37, _⟩ => ⟨S32x2048, .i32⟩
  | .hbm, ⟨38, _⟩ => ⟨S_, .i32⟩
  | .hbm, ⟨39, _⟩ => ⟨S32x2048, .i32⟩
  | .hbm, ⟨40, _⟩ => ⟨S32x2048, .i1⟩
  | .hbm, ⟨41, _⟩ => ⟨S_, .i32⟩
  | .hbm, ⟨42, _⟩ => ⟨S32x2048, .i32⟩
  | .hbm, ⟨43, _⟩ => ⟨S32x2048, .i32⟩
  | .hbm, ⟨44, _⟩ => ⟨S32x2048, .i32⟩
  | .hbm, ⟨45, _⟩ => ⟨S_, .i32⟩
  | .hbm, ⟨46, _⟩ => ⟨S32x2048, .i32⟩
  | .hbm, ⟨47, _⟩ => ⟨S32x2048, .i1⟩
  | .hbm, ⟨48, _⟩ => ⟨S_, .i32⟩
  | .hbm, ⟨49, _⟩ => ⟨S32x2048, .i32⟩
  | .hbm, ⟨50, _⟩ => ⟨S32x2048, .i32⟩
  | .hbm, ⟨51, _⟩ => ⟨S32x2048, .i32⟩
  | .hbm, ⟨52, _⟩ => ⟨S_, .i32⟩
  | .hbm, ⟨53, _⟩ => ⟨S32x2048, .i32⟩
  | .hbm, ⟨54, _⟩ => ⟨S32x2048, .i1⟩
  | .hbm, ⟨55, _⟩ => ⟨S_, .i32⟩
  | .hbm, ⟨56, _⟩ => ⟨S32x2048, .i32⟩
  | .hbm, ⟨57, _⟩ => ⟨S32x2048, .i32⟩
  | .hbm, ⟨58, _⟩ => ⟨S32x2048, .i32⟩
  | .hbm, ⟨59, _⟩ => ⟨S32x2048x1, .i32⟩
  | .hbm, ⟨60, _⟩ => ⟨S32x2048x1, .i32⟩
  | .hbm, ⟨61, _⟩ => ⟨S32x2048x1, .i32⟩
  | .hbm, ⟨62, _⟩ => ⟨S32x2048x3, .i32⟩
  | .hbm, ⟨63, _⟩ => ⟨S32x2048x1000, .f32⟩
  | _, _ => ⟨S32x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call1_v0 : Ref sig .tc := ⟨.hbm, 29, rfl⟩
abbrev main_call1_v1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Proof.Spec.lean ====
/- What both programs compute, written once over the arguments' entries, and the number of valid positions of a row.

   A row of the mask has some number of set entries, its length. At a position before the length the token there is the next
   token of the row, or 3 at the last such position, and the entry of the result at that token is the second fill value. Every other entry
   is the first fill value. -/
module

public import Idealize.ShloMosaic.Lib.Pointwise
public import Idealize.ShloMosaic.Lib.IndicatorCount

@[expose] public section

noncomputable section

namespace Cert.TokenFill

open Idealize.ShloMosaic

/-- The indices of the token ids and of the mask: a row of the batch and a position in it. -/
abbrev Row := (⟨2, ![32, 2048]⟩ : Shape).Idx

/-- The number of valid positions of row `b`: how many entries of the mask's row are set. -/
def len (mask : Row → BitVec 1) (b : Fin 32) : ℕ := (Finset.univ.filter fun k : Fin 2048 => mask (ix2 b k) = 1#1).card

/-- The token of row `b` at position `s`: 3 at the last valid position, elsewhere the id one position on. Past the end of the
    row it is 0, which no valid position reaches. -/
def token (ids : Row → BitVec 32) (mask : Row → BitVec 1) (b : Fin 32) (s : Fin 2048) : BitVec 32 :=
  if s.val + 1 = len mask b then 3#32 else if h : s.val + 1 < 2048 then ids (ix2 b ⟨s.val + 1, h⟩) else 0#32

/-- The result at row `b`, position `s`, vocabulary entry `v`: the second fill value if `s` is valid and its token is `v`, else
    the first. -/
def entry (ids : Row → BitVec 32) (mask : Row → BitVec 1) (fill : (⟨1, ![2]⟩ : Shape).Idx → EReal)
    (b : Fin 32) (s : Fin 2048) (v : Fin 1000) : EReal :=
  if s.val < len mask b ∧ token ids mask b s = BitVec.ofNat 32 v.val then fill (ix1 1) else fill (ix1 0)

/-- The whole result. -/
def result (ids : Row → BitVec 32) (mask : Row → BitVec 1) (fill : (⟨1, ![2]⟩ : Shape).Idx → EReal) :
    (⟨3, ![32, 2048, 1000]⟩ : Shape).Idx → EReal :=
  fun j => entry ids mask fill (j 0) (j 1) (j 2)

/-- A row has at most 2048 valid positions. -/
theorem len_le (mask : Row → BitVec 1) (b : Fin 32) : len mask b ≤ 2048 :=
  (Finset.card_le_univ _).trans_eq (Fintype.card_fin _)

/-- The sum of a mask row's entries as 32-bit words is the row's length. -/
theorem sum_eq_len (mask : Row → BitVec 1) (b : Fin 32) :
    Finset.univ.fold IntOp.addi (0#32) (fun k : Fin 2048 => (mask (ix2 b k)).setWidth 32) = BitVec.ofNat 32 (len mask b) :=
  IndicatorCount.fold_addi_setWidth_eq_card (fun k : Fin 2048 => mask (ix2 b k)) Finset.univ

end Cert.TokenFill

end
-- ==== Proof.Words.lean ====
/- Facts about 32-bit words read as numbers: a position against the last valid position, which is the length less one and for an
   empty row the word of -1; and an index word of the vocabulary, negative words moved up by its size. -/
module

public import Idealize.ShloMosaic.Lib.WordCmp

@[expose] public section

namespace Cert.TokenFill

open Idealize.ShloMosaic

/-- A position is at most the last valid one, compared signed, exactly when it is below the length. -/
theorem le_last {n l : ℕ} (hn : n < 2048) (hl : l ≤ 2048) :
    IntOp.cmpi .sle (BitVec.ofNat 32 n) (IntOp.subi (BitVec.ofNat 32 l) 1#32) = BitVec.ofBool (decide (n < l)) := by
  show BitVec.ofBool ((BitVec.ofNat 32 n).sle (BitVec.ofNat 32 l - 1#32)) = _
  congr 1
  rw [BitVec.sle_eq_decide]
  apply decide_eq_decide.2
  rw [BitVec.toInt_eq_toNat_bmod, BitVec.toInt_eq_toNat_bmod]
  simp only [BitVec.toNat_ofNat, BitVec.toNat_sub, Int.bmod]
  omega

/-- A position equals the last valid one exactly when the next number is the length. -/
theorem eq_last {n l : ℕ} (hn : n < 2048) (hl : l ≤ 2048) :
    IntOp.cmpi .eq (BitVec.ofNat 32 n) (IntOp.subi (BitVec.ofNat 32 l) 1#32) = BitVec.ofBool (decide (n + 1 = l)) := by
  show BitVec.ofBool (decide (BitVec.ofNat 32 n = BitVec.ofNat 32 l - 1#32)) = _
  congr 1
  apply decide_eq_decide.2
  rw [← BitVec.toNat_inj]
  simp only [BitVec.toNat_ofNat, BitVec.toNat_sub]
  omega

/-- A number below 2^31 as a word, read signed, is the number. -/
theorem toInt_word {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

/-- A word that, read signed, is not in `[-1000, -1]`: moving a negative word up by the vocabulary's 1000 entries does not make an
    entry's number of it. -/
def Unwrapped (x : BitVec 32) : Prop := 0 ≤ x.toInt ∨ x.toInt < -1000

/-- Moved up by 1000 where it is negative, such a word reads as the vocabulary entry `v` exactly when it is `v`'s word. -/
theorem wrap_eq_iff {x : BitVec 32} (hx : Unwrapped x) {v : ℕ} (hv : v < 1000) :
    (Scalar.select (IntOp.cmpi .slt x 0#32) (IntOp.addi x 1000#32) x).toInt = v ↔ x = BitVec.ofNat 32 v := by
  rw [WordCmp.cmpi_slt_zero, WordCmp.select_decide, ← BitVec.toNat_inj]
  unfold Unwrapped at hx
  have hlt := x.isLt
  show (if _ then x + 1000#32 else x).toInt = _ ↔ _
  split
  · rename_i h
    simp only [BitVec.toInt_eq_toNat_bmod, BitVec.toNat_add, BitVec.toNat_ofNat, Int.bmod] at *
    omega
  · rename_i h
    simp only [BitVec.toInt_eq_toNat_bmod, BitVec.toNat_ofNat, Int.bmod] at *
    omega

end Cert.TokenFill
-- ==== Proof.Block.lean ====
/- One block of the kernel: what the body stores at row `r` of its 512 positions and vocabulary entry `v`, given what its
   input blocks hold. The value is the entry of the result that the block covers there. -/
module

public import proofs.«01_k».proof.Proof.Gen.KernelIdeal.Skeleton
public import proofs.«01_k».proof.Proof.Spec
public import proofs.«01_k».proof.Proof.Words

@[expose] public section

set_option maxRecDepth 16384

noncomputable section

namespace Cert.TokenFill

open Cert.KernelIdeal Cert.KernelIdeal.Gen
open Idealize.ShloMosaic Idealize.ShloMosaic.TcCoe

/-- The body's sum over its mask block is the length of the row that the block holds. -/
theorem blockSum (mask : Row → BitVec 1) (b : Fin 32) (x : IVec S1x1x2048 32)
    (hx : ∀ k : Fin 2048, x (ix3 0 0 k) = (mask (ix2 b k)).setWidth 32) (p : S1x1x1x2048.Idx → Prop) [DecidablePred p] (hp : ∀ i, p i) :
    (Finset.univ.filter p).fold IntOp.addi (0#32) (fun i => x (ix3 0 0 (i 3))) = BitVec.ofNat 32 (len mask b) := by
  rw [Finset.fold_filter_eq_fold_of_fiber IntOp.addi p (fun k : Fin 2048 => (ix4 0 0 0 k : S1x1x1x2048.Idx))
    (fun _ _ e => congrFun e 3) (fun i => ⟨fun _ => ⟨i 3, ?_⟩, fun _ => hp i⟩), ← sum_eq_len]
  · exact Finset.fold_congr fun k _ => hx k
  · funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- The word of a block's row: 512 times the block's place along the sequence, plus the row, is the position's word. -/
theorem position (n r : ℕ) :
    IntOp.addi (Scalar.muli (BitVec.ofNat 32 n) 512#32) (BitVec.ofNat 32 r) = BitVec.ofNat 32 (512 * n + r) := by
  show BitVec.ofNat 32 n * BitVec.ofNat 32 512 + BitVec.ofNat 32 r = _
  rw [← BitVec.ofNat_mul, ← BitVec.ofNat_add, Nat.mul_comm]

/-- A block's stored value, on words: below the length it is the second fill value at the row's token and the first elsewhere;
    from the length on the token compared is -1, which is no vocabulary entry. `T` is the token that the body reads, asked for
    only where it is used. -/
theorem chosen {l n : ℕ} (hn : n < 2048) (hl : l ≤ 2048) (v : Fin 1000) (T U : BitVec 32) (hT : n + 1 < l → T = U) (x y : EReal) :
    Scalar.select (IntOp.cmpi .eq (BitVec.ofNat 32 v.val)
      (Scalar.select (IntOp.cmpi .sle (BitVec.ofNat 32 n) (Scalar.subi (BitVec.ofNat 32 l) 1#32))
        (Scalar.select (IntOp.cmpi .eq (BitVec.ofNat 32 n) (Scalar.subi (BitVec.ofNat 32 l) 1#32)) 3#32 T) 4294967295#32)) x y
      = if n < l ∧ (if n + 1 = l then 3#32 else U) = BitVec.ofNat 32 v.val then x else y := by
  unfold Scalar.subi
  rw [le_last hn hl, eq_last hn hl, WordCmp.cmpi_eq_eq, WordCmp.select_decide, WordCmp.select_decide, WordCmp.select_decide]
  by_cases h : n < l
  · by_cases e : n + 1 = l
    · simp only [h, e, if_true, true_and, eq_comm]
    · rw [hT (by omega)]
      simp only [h, e, if_true, if_false, true_and, eq_comm]
  · simp only [h, if_false, false_and]
    refine if_neg fun e => ?_
    have := congrArg BitVec.toNat e
    have := v.isLt
    simp only [BitVec.toNat_ofNat] at *
    omega

/-- Away from the last block of the sequence, whose number is 3, the token after a block's last row is read from the next block. -/
theorem interior {n : ℕ} (hn : n < 3) (a z : BitVec 32) : Scalar.select (Scalar.cmpi .eq (BitVec.ofNat 32 n) 3#32) a z = z := by
  unfold Scalar.cmpi
  rw [WordCmp.cmpi_eq_eq, WordCmp.select_decide, if_neg]
  intro e
  have := congrArg BitVec.toNat e
  simp only [BitVec.toNat_ofNat] at this
  omega

/-- What the body stores at row `r` and vocabulary entry `v`: the result's entry at the position the row stands for. -/
theorem stored (i : grid0.Coords) (x y : Elt Ideal .f32) (mk : IVec S1x1x2048 32) (cur nxt : IVec S1x512x1 32)
    (ids : Row → BitVec 32) (mask : Row → BitVec 1) (fill : (⟨1, ![2]⟩ : Shape).Idx → EReal) (b : Fin 32) (n : Fin 4) (hi : (i 1).val = n.val)
    (hx : x = fill (ix1 0)) (hy : y = fill (ix1 1))
    (hmk : ∀ k : Fin 2048, mk (ix3 0 0 k) = (mask (ix2 b k)).setWidth 32)
    (hcur : ∀ r : Fin 512, cur (ix3 0 r 0) = ids (ix2 b ⟨512 * n.val + r.val, by omega⟩))
    (hnxt : ∀ h : n.val < 3, nxt (ix3 0 0 0) = ids (ix2 b ⟨512 * n.val + 512, by omega⟩))
    (r : Fin 512) (v : Fin 1000) :
    k0_pay1 (k0_pay2 (F := Ideal) i x y mk cur nxt) (ix3 0 r v) = entry ids mask fill b ⟨512 * n.val + r.val, by omega⟩ v := by
  pointwise [k0_pay1, k0_pay2]
  have hr : ∀ i : S1x1x1x2048.Idx, reduces_S1x1x1x2048_S1.drop i = ix1 0 := fun i => funext fun a => by
    match a with
    | ⟨0, _⟩ => exact Subsingleton.elim (α := Fin 1) _ _
  rw [blockSum mask b mk hmk _ hr, hi, position, hx, hy]
  refine chosen (by omega) (len_le mask b) v _ (if h : 512 * n.val + r.val + 1 < 2048 then ids (ix2 b ⟨512 * n.val + r.val + 1, h⟩) else 0#32)
    (fun h => ?_) _ _
  have hl := len_le mask b
  rw [dif_pos (show 512 * n.val + r.val + 1 < 2048 by omega)]
  split
  · rw [hcur]
    congr 2
    apply Fin.ext
    show 512 * n.val + (1 + r.val) = 512 * n.val + r.val + 1
    omega
  · have hn : n.val < 3 := by omega
    refine (interior (by omega) _ _).trans ((congrArg nxt ?_).trans ((hnxt hn).trans ?_))
    · exact congrArg (fun q => (ix3 0 q 0 : S1x512x1.Idx)) (Fin.ext (by show r.val - 511 = 0; omega))
    · congr 2
      apply Fin.ext
      show 512 * n.val + 512 = 512 * n.val + r.val + 1
      omega

end Cert.TokenFill

end
-- ==== Proof.KernelValue.lean ====
/- The kernel's result array after the run is the specified result of its arguments: what each grid point's input blocks hold,
   and that the points' output blocks fill the array. -/
module

public import proofs.«01_k».proof.Proof.Gen.KernelIdeal.Value
public import proofs.«01_k».proof.Proof.Block
public import Idealize.ShloMosaic.Lib.Pipeline.ValueKit

@[expose] public section

set_option maxRecDepth 16384

noncomputable section

namespace Cert.TokenFill

open Cert.KernelIdeal Cert.KernelIdeal.Gen
open Idealize.ShloMosaic Idealize.ShloMosaic.TcCoe Idealize.ShloMosaic.Pipeline

variable (m : (ℓ : Loc nD τ sig) → Buf (Elt Ideal) ℓ) (c : Dev nD)

/-- Where the blocks of grid point `t = (b, n)` lie: the ids' block at row `b`, block `n` of the sequence; the block of ids
    after it, or the last one again; row `b` of the mask; the fill values whole; the output's block like the ids'. -/
theorem index_at : ∀ t : Fin cfg0.N,
    win0_0.index t = ![(grid0.coords t 0).val, (grid0.coords t 1).val, 0]
    ∧ win0_1.index t = ![(grid0.coords t 0).val, min ((grid0.coords t 1).val + 1) 3, 0]
    ∧ win0_2.index t = ![(grid0.coords t 0).val, 0, 0]
    ∧ win0_3.index t = ![0]
    ∧ win0_4.index t = ![(grid0.coords t 0).val, (grid0.coords t 1).val, 0] :=
  (by decide +kernel : ∀ t : Fin grid0.N, _)

/-- The batch row of grid point `t`. -/
abbrev rowOf (t : Fin cfg0.N) : Fin 32 := grid0.coords t 0

/-- The place of grid point `t`'s block along the sequence. -/
abbrev placeOf (t : Fin cfg0.N) : Fin 4 := grid0.coords t 1

/-- The first input block: 512 token ids of the point's row, from its place on. -/
theorem ids_block (t : Fin cfg0.N) (r : Fin 512) :
    iblk m c 0 t (ix3 0 r 0) = m ((c.tc : Thread nD τ).loc main_arg0) (ix2 (rowOf t) ⟨512 * (placeOf t).val + r.val, by omega⟩) := by
  blk_simp [iblk]
  entry_read
  pointwise
  blk_ext [(index_at t).1]
  · exact Nat.add_zero _
  · exact congrArg (· + r.val) (Nat.mul_comm _ _)

/-- The second input block's first id, away from the end of the row: the id after the first block's last. -/
theorem next_block (t : Fin cfg0.N) (h : (placeOf t).val < 3) :
    iblk m c 1 t (ix3 0 0 0) = m ((c.tc : Thread nD τ).loc main_arg0) (ix2 (rowOf t) ⟨512 * (placeOf t).val + 512, by omega⟩) := by
  blk_simp [iblk]
  entry_read
  pointwise
  blk_ext [(index_at t).2.1]
  · exact Nat.add_zero _
  · show min ((placeOf t).val + 1) 3 * 512 + 0 = 512 * (placeOf t).val + 512
    omega

/-- The third input block: the point's row of the mask, each bit as a 32-bit word. -/
theorem mask_block (t : Fin cfg0.N) (k : Fin 2048) :
    iblk m c 2 t (ix3 0 0 k) = (m ((c.tc : Thread nD τ).loc main_arg1) (ix2 (rowOf t) k)).setWidth 32 := by
  blk_simp [iblk]
  entry_read
  pointwise
  refine congrArg (BitVec.setWidth 32) ?_
  blk_ext [(index_at t).2.2.1]
  exact Nat.add_zero _

/-- The fourth input block: the two fill values. -/
theorem fill_block (t : Fin cfg0.N) (k : Fin 2) : iblk m c 3 t (ix1 k) = m ((c.tc : Thread nD τ).loc main_arg2) (ix1 k) := by
  blk_simp [iblk]
  entry_read
  blk_ext [(index_at t).2.2.2.1]

/-- The kernel's result array after the last grid point. -/
theorem array_eq :
    (dats m 0 c).arrAt 4 cfg0.N = result (m ((c.tc : Thread nD τ).loc main_arg0)) (m ((c.tc : Thread nD τ).loc main_arg1))
      (m ((c.tc : Thread nD τ).loc main_arg2)) := by
  refine (dats m 0 c).arrAt_eq_of_covers 4 _ (by decide +kernel) fun t hf y => ?_
  blk_simp
  rw [after0_4]
  unfold outsAt0
  frame_out
  have hy : y = (ix3 0 (y 1) (y 2) : S1x512x1000.Idx) := by blk_ext []
  rw [hy]
  refine (stored (grid0.coords t) _ _ _ _ _ (m ((c.tc : Thread nD τ).loc main_arg0)) (m ((c.tc : Thread nD τ).loc main_arg1))
    (m ((c.tc : Thread nD τ).loc main_arg2)) (rowOf t) (placeOf t) rfl ?_ ?_ (mask_block m c t) (ids_block m c t) (next_block m c t)
    (y 1) (y 2)).trans ?_
  · refine Eq.trans ?_ (fill_block m c t 0)
    pointwise
  · refine Eq.trans ?_ (fill_block m c t 1)
    pointwise
  · unfold result
    congr 1
    · apply Fin.ext
      blk_simp [(index_at t).2.2.2.2]
      exact (Nat.add_zero _).symm
    · apply Fin.ext
      blk_simp [(index_at t).2.2.2.2]
      exact congrArg (· + (y 1).val) (Nat.mul_comm _ _)
    · apply Fin.ext
      blk_simp [(index_at t).2.2.2.2]

end Cert.TokenFill

end
-- ==== Proof.ReferenceParts.lean ====
/- The reference's composed term in named parts, and what each part holds at an index: the last valid position of a row, the
   token of a position, the three index words of an update, its value, and the array that the updates are written over. -/
module

public import proofs.«01_k».proof.Proof.Gen.ReferenceIdeal.Run
public import proofs.«01_k».proof.Proof.Spec
public import proofs.«01_k».proof.Proof.Words
public import Idealize.ShloMosaic.Lib.Routing.OpsPair

@[expose] public section

set_option maxRecDepth 16384

noncomputable section

namespace Cert.TokenFill

open Cert.ReferenceIdeal Cert.ReferenceIdeal.Gen
open Idealize.ShloMosaic Idealize.ShloMosaic.TcCoe

/-- Each row's last valid position: the sum of the mask's row, less one. -/
def lastVec (mask : IVec S32x2048 1) : IVec S32 32 :=
  subi (Host.reduce IntOp.addi (extui 32 mask natLt_1_32) (constantI S_ 32 0#32) reducesTo_S32x2048_S32_d1 h_S_)
    (broadcastInDim S32 ![] bcast_S_S32 (constantI S_ 32 1#32))

/-- Every position's own number, in each row. -/
def posVec : IVec S32x2048 32 :=
  broadcastInDim S32x2048 ![0, 1] bcast_S1x2048_S32x2048_0_1 (broadcastInDim S1x2048 ![1] bcast_S2048_S1x2048_1 (iotaInDim S2048 32 0))

/-- Every row's own number, at each position. -/
def rowVec : IVec S32x2048 32 :=
  broadcastInDim S32x2048 ![0, 1] bcast_S32x1_S32x2048_0_1 (broadcastInDim S32x1 ![0] bcast_S32_S32x1_0 (iotaInDim S32 32 0))

/-- A value per row, repeated at each position. -/
def alongRow (x : IVec S32 32) : IVec S32x2048 32 :=
  broadcastInDim S32x2048 ![0, 1] bcast_S32x1_S32x2048_0_1 (broadcastInDim S32x1 ![0] bcast_S32_S32x1_0 x)

/-- One word at every row and position. -/
def splat (x : BitVec 32) : IVec S32x2048 32 := broadcastInDim S32x2048 ![] bcast_S_S32x2048 (constantI S_ 32 x)

/-- The ids moved one position back, with a zero at the end of each row. -/
def nextVec (ids : IVec S32x2048 32) : IVec S32x2048 32 :=
  concatenate S32x2048 1 [⟨S32x2047, extractStridedSlice S32x2047 ![0, 1] ids slices_S32x2048_S32x2047_0_1⟩,
    ⟨S32x1, broadcastInDim S32x1 ![] bcast_S_S32x1 (constantI S_ 32 0#32)⟩] concatenates_S32x2047_S32x1_S32x2048_d1

/-- The token of each position. -/
def tokenVec (ids : IVec S32x2048 32) (mask : IVec S32x2048 1) : IVec S32x2048 32 :=
  select (cmpi .eq posVec (alongRow (lastVec mask))) (splat 3#32) (nextVec ids)

/-- A table of index words along an axis of the result, each negative word moved up by the axis's size `n`. -/
def wrapped (x : IVec S32x2048 32) (n : BitVec 32) : IVec S32x2048x1 32 :=
  broadcastInDim S32x2048x1 ![0, 1] bcast_S32x2048_S32x2048x1_0_1 (select (cmpi .slt x (splat 0#32)) (addi x (splat n)) x)

/-- The three index words of each update. -/
def wordVec (t : IVec S32x2048 32) : IVec S32x2048x3 32 :=
  concatenate S32x2048x3 2 [⟨S32x2048x1, wrapped rowVec 32#32⟩, ⟨S32x2048x1, wrapped posVec 2048#32⟩, ⟨S32x2048x1, wrapped t 1000#32⟩]
    concatenates_S32x2048x1_S32x2048x1_S32x2048x1_S32x2048x3_d2

/-- The first fill value as a scalar. -/
def fill0 (fill : FVec Ideal S2 .f32) : FVec Ideal S_ .f32 := shapeCast _ (extractStridedSlice S1 ![0] fill slices_S2_S1_0) shapeCasts_S1_S_

/-- The second fill value as a scalar. -/
def fill1 (fill : FVec Ideal S2 .f32) : FVec Ideal S_ .f32 := shapeCast _ (extractStridedSlice S1 ![1] fill slices_S2_S1_1) shapeCasts_S1_S_

/-- The value of each update. -/
def updateVec (mask : IVec S32x2048 1) (fill : FVec Ideal S2 .f32) : FVec Ideal S32x2048 .f32 :=
  select (cmpi .sle posVec (alongRow (lastVec mask))) (broadcastInDim S32x2048 ![] bcast_S_S32x2048 (fill1 fill))
    (broadcastInDim S32x2048 ![] bcast_S_S32x2048 (fill0 fill))

/-- The array the updates are written over: the first fill value everywhere. -/
def baseVec (fill : FVec Ideal S2 .f32) : FVec Ideal S32x2048x1000 .f32 :=
  broadcastInDim S32x2048x1000 ![] bcast_S_S32x2048x1000 (fill0 fill)

/-- The reference's result is these parts put together. -/
theorem res_eq (m : (ℓ : Loc nD τ sig) → Buf (Elt Ideal) ℓ) (c : Dev nD) :
    Value.res_out0 m c = Host.scatter scatter_S32x2048x1000_S32x2048x3_S32x2048_n_012_012_2 (fun _ b => b)
      (baseVec (m ((c.tc : Thread nD τ).loc main_arg2)))
      (wordVec (tokenVec (m ((c.tc : Thread nD τ).loc main_arg0)) (m ((c.tc : Thread nD τ).loc main_arg1))))
      (updateVec (m ((c.tc : Thread nD τ).loc main_arg1)) (m ((c.tc : Thread nD τ).loc main_arg2))) := rfl

/-- A row's last valid position is its length less one. -/
theorem lastVec_at (mask : IVec S32x2048 1) (b : Fin 32) : lastVec mask (ix1 b) = IntOp.subi (BitVec.ofNat 32 (len mask b)) 1#32 := by
  pointwise [lastVec]
  rw [sum_eq_len]

/-- At position `s` the position's number is `s`. -/
theorem posVec_at (b : Fin 32) (s : Fin 2048) : posVec (ix2 b s) = BitVec.ofNat 32 s.val := by pointwise [posVec]

/-- At row `b` the row's number is `b`. -/
theorem rowVec_at (b : Fin 32) (s : Fin 2048) : rowVec (ix2 b s) = BitVec.ofNat 32 b.val := by pointwise [rowVec]

/-- A value per row, repeated along the row, is the row's value. -/
theorem alongRow_at (x : IVec S32 32) (b : Fin 32) (s : Fin 2048) : alongRow x (ix2 b s) = x (ix1 b) := by pointwise [alongRow]

/-- The moved ids at a position: the id one position on, and zero at the row's end. -/
theorem nextVec_at (ids : IVec S32x2048 32) (b : Fin 32) (s : Fin 2048) :
    nextVec ids (ix2 b s) = if h : s.val + 1 < 2048 then ids (ix2 b ⟨s.val + 1, h⟩) else 0#32 := by
  pointwise [nextVec]
  by_cases h : s.val < 2047
  · rw [dif_pos h, dif_pos (by omega)]
    exact congrArg (fun q => ids (ix2 b q)) (Fin.ext (Nat.add_comm _ _))
  · rw [dif_neg h, dif_neg (by omega)]

/-- The reference's token of a position is the specified one. -/
theorem tokenVec_at (ids : IVec S32x2048 32) (mask : IVec S32x2048 1) (b : Fin 32) (s : Fin 2048) :
    tokenVec ids mask (ix2 b s) = token ids mask b s := by
  show Scalar.select (IntOp.cmpi .eq (posVec (ix2 b s)) (alongRow (lastVec mask) (ix2 b s))) 3#32 (nextVec ids (ix2 b s)) = _
  rw [posVec_at, alongRow_at, lastVec_at, nextVec_at, eq_last s.isLt (len_le mask b), WordCmp.select_decide]
  rfl

/-- An index word, moved up by `n` where it is negative. -/
theorem wrapped_at (x : IVec S32x2048 32) (n : BitVec 32) (b : Fin 32) (s : Fin 2048) :
    wrapped x n (ix3 b s 0) = Scalar.select (IntOp.cmpi .slt (x (ix2 b s)) 0#32) (IntOp.addi (x (ix2 b s)) n) (x (ix2 b s)) := by
  pointwise [wrapped, splat]

/-- An update's first index word is its row, which is never negative. -/
theorem wordVec_at0 (t : IVec S32x2048 32) (b : Fin 32) (s : Fin 2048) : wordVec t (ix3 b s 0) = BitVec.ofNat 32 b.val := by
  refine Eq.trans ?_ ((wrapped_at rowVec 32#32 b s).trans ?_)
  · pointwise [wordVec]
  · rw [rowVec_at, Routing.wrap_of_lt _ _ (by rw [BitVec.toNat_ofNat]; omega)]

/-- Its second is its position, which is never negative. -/
theorem wordVec_at1 (t : IVec S32x2048 32) (b : Fin 32) (s : Fin 2048) : wordVec t (ix3 b s 1) = BitVec.ofNat 32 s.val := by
  refine Eq.trans ?_ ((wrapped_at posVec 2048#32 b s).trans ?_)
  · pointwise [wordVec]
  · rw [posVec_at, Routing.wrap_of_lt _ _ (by rw [BitVec.toNat_ofNat]; omega)]

/-- Its third is its token, moved up by 1000 where it is negative. -/
theorem wordVec_at2 (t : IVec S32x2048 32) (b : Fin 32) (s : Fin 2048) :
    wordVec t (ix3 b s 2) = Scalar.select (IntOp.cmpi .slt (t (ix2 b s)) 0#32) (IntOp.addi (t (ix2 b s)) 1000#32) (t (ix2 b s)) := by
  refine Eq.trans ?_ (wrapped_at t 1000#32 b s)
  pointwise [wordVec]

/-- An update's value: the second fill value before the length, the first after it. -/
theorem updateVec_at (mask : IVec S32x2048 1) (fill : FVec Ideal S2 .f32) (b : Fin 32) (s : Fin 2048) :
    updateVec mask fill (ix2 b s) = if s.val < len mask b then fill (ix1 1) else fill (ix1 0) := by
  refine Eq.trans (b := Scalar.select (IntOp.cmpi .sle (posVec (ix2 b s)) (alongRow (lastVec mask) (ix2 b s))) (fill (ix1 1)) (fill (ix1 0))) ?_ ?_
  · pointwise [updateVec, fill0, fill1]
  · rw [posVec_at, alongRow_at, lastVec_at, le_last s.isLt (len_le mask b), WordCmp.select_decide]

/-- The array written over holds the first fill value everywhere. -/
theorem baseVec_at (fill : FVec Ideal S2 .f32) (b : Fin 32) (s : Fin 2048) (v : Fin 1000) : baseVec fill (ix3 b s v) = fill (ix1 0) := by
  pointwise [baseVec, fill0]

end Cert.TokenFill

end
-- ==== Proof.Lands.lean ====
/- Where an update of the reference's scatter lands: update `(a, b)` writes the entry whose three coordinates are the update's
   three index words read as signed numbers, and no other. -/
module

public import proofs.«01_k».proof.Proof.Gen.ReferenceIdeal
public import Idealize.ShloMosaic.Lib.Pointwise
public import Idealize.ShloMosaic.Lib.Routing.OpsPair

@[expose] public section

namespace Cert.TokenFill

open Cert.ReferenceIdeal Cert.ReferenceIdeal.Gen
open Idealize.ShloMosaic

/-- How the reference's scatter places its updates: one number each, at the entry its three index words name. -/
abbrev place := scatter_S32x2048x1000_S32x2048x3_S32x2048_n_012_012_2

/-- An update is one number, so it has no extent along any axis. -/
theorem window_zero (a : Fin 32) (b : Fin 2048) (q : Fin 3) : place.window (ix2 a b) q = 0 := by
  fin_cases q <;> rfl

/-- Index word `q` of update `(a, b)` is the table's entry `(a, b, q)`. -/
theorem word_at (a : Fin 32) (b : Fin 2048) (q : Fin 3) : place.siIdx (ix2 a b) q = ix3 a b q := by
  funext x
  fin_cases q <;> fin_cases x <;> rfl

/-- Along axis `q` an update starts at its index word `q`, read signed. -/
theorem start_eq (idx : IVec S32x2048x3 32) (a : Fin 32) (b : Fin 2048) (q : Fin 3) :
    place.start (ix2 a b) idx q = (idx (ix3 a b q)).toInt := by
  rw [← word_at a b q]
  fin_cases q <;> rfl

/-- Update `(a, b)` writes entry `(r, s, v)` exactly when its three index words, read signed, are `r`, `s` and `v`. -/
theorem lands (idx : IVec S32x2048x3 32) (a : Fin 32) (b : Fin 2048) (r : Fin 32) (s : Fin 2048) (v : Fin 1000) :
    place.resultIdx? (ix2 a b) idx = some (ix3 r s v)
      ↔ (idx (ix3 a b 0)).toInt = r.val ∧ (idx (ix3 a b 1)).toInt = s.val ∧ (idx (ix3 a b 2)).toInt = v.val := by
  rw [Routing.resultIdx?_eq_some]
  constructor
  · intro h
    have h0 := h 0
    have h1 := h 1
    have h2 := h 2
    rw [start_eq, window_zero] at h0 h1 h2
    exact ⟨(Int.add_zero _).symm.trans h0, (Int.add_zero _).symm.trans h1, (Int.add_zero _).symm.trans h2⟩
  · rintro ⟨h0, h1, h2⟩ q
    rw [start_eq, window_zero]
    refine (Int.add_zero _).trans ?_
    fin_cases q
    exacts [h0, h1, h2]

end Cert.TokenFill
-- ==== Proof.ReferenceValue.lean ====
/- The reference's result is the specified one when no token id lies in `[-1000, -1]`. At an entry `(b, s, v)` the only update that can
   land is the one of row `b` and position `s`, and it lands exactly when its token is `v`. -/
module

public import proofs.«01_k».proof.Proof.ReferenceParts
public import proofs.«01_k».proof.Proof.Lands
public import Idealize.ShloMosaic.Lib.Routing.OpsSet

@[expose] public section

namespace Cert.TokenFill

open Cert.ReferenceIdeal Cert.ReferenceIdeal.Gen
open Idealize.ShloMosaic Idealize.ShloMosaic.TcCoe

/-- With every id outside `[-1000, -1]`, so is every token. -/
theorem token_unwrapped (ids : Row → BitVec 32) (mask : Row → BitVec 1) (hids : ∀ i, Unwrapped (ids i)) (b : Fin 32) (s : Fin 2048) :
    Unwrapped (token ids mask b s) := by
  unfold token
  split
  · exact Or.inl (by decide)
  · split
    · exact hids _
    · exact Or.inl (by decide)

/-- Update `(a, k)` lands at `(b, s, v)` exactly when it is the update of row `b` and position `s` and its token is `v`. -/
theorem update_lands (ids : Row → BitVec 32) (mask : Row → BitVec 1) (hids : ∀ i, Unwrapped (ids i))
    (a : Fin 32) (k : Fin 2048) (b : Fin 32) (s : Fin 2048) (v : Fin 1000) :
    place.resultIdx? (ix2 a k) (wordVec (tokenVec ids mask)) = some (ix3 b s v)
      ↔ a = b ∧ k = s ∧ token ids mask a k = BitVec.ofNat 32 v.val := by
  rw [lands, wordVec_at0, wordVec_at1, wordVec_at2, toInt_word (by omega), toInt_word (by omega), tokenVec_at,
    wrap_eq_iff (token_unwrapped ids mask hids a k) v.isLt, Int.natCast_inj, Int.natCast_inj, Fin.val_inj, Fin.val_inj]

/-- The reference's result, where no token id lies in `[-1000, -1]`. -/
theorem reference_eq (m : (ℓ : Loc nD τ sig) → Buf (Elt Ideal) ℓ) (c : Dev nD)
    (hids : ∀ i, Unwrapped (m ((c.tc : Thread nD τ).loc main_arg0) i)) :
    Value.res_out0 m c = result (m ((c.tc : Thread nD τ).loc main_arg0)) (m ((c.tc : Thread nD τ).loc main_arg1))
      (m ((c.tc : Thread nD τ).loc main_arg2)) := by
  rw [res_eq]
  generalize m ((c.tc : Thread nD τ).loc main_arg0) = ids at hids ⊢
  generalize m ((c.tc : Thread nD τ).loc main_arg1) = mask
  generalize m ((c.tc : Thread nD τ).loc main_arg2) = fill
  funext j
  obtain ⟨b, s, v, rfl⟩ : ∃ (b : Fin 32) (s : Fin 2048) (v : Fin 1000), j = ix3 b s v :=
    ⟨j 0, j 1, j 2, funext fun a => by match a with | ⟨0, _⟩ => rfl | ⟨1, _⟩ => rfl | ⟨2, _⟩ => rfl⟩
  show _ = entry ids mask fill b s v
  unfold entry
  by_cases h : token ids mask b s = BitVec.ofNat 32 v.val
  · refine (Routing.scatter_set_hit _ _ _ _ _ (if s.val < len mask b then fill (ix1 1) else fill (ix1 0)) (fun k hk => ?_) (ix2 b s)
      ((update_lands ids mask hids b s b s v).2 ⟨rfl, rfl, h⟩)).trans ?_
    · obtain ⟨a, q, rfl⟩ : ∃ (a : Fin 32) (q : Fin 2048), k = ix2 a q :=
        ⟨k 0, k 1, funext fun a => by match a with | ⟨0, _⟩ => rfl | ⟨1, _⟩ => rfl⟩
      obtain ⟨rfl, rfl, -⟩ := (update_lands ids mask hids a q b s v).1 hk
      exact updateVec_at mask fill a q
    · simp only [h, and_true]
  · refine (Routing.scatter_set_miss _ _ _ _ _ fun k hk => ?_).trans ((baseVec_at fill b s v).trans ?_)
    · obtain ⟨a, q, rfl⟩ : ∃ (a : Fin 32) (q : Fin 2048), k = ix2 a q :=
        ⟨k 0, k 1, funext fun a => by match a with | ⟨0, _⟩ => rfl | ⟨1, _⟩ => rfl⟩
      obtain ⟨rfl, rfl, e⟩ := (update_lands ids mask hids a q b s v).1 hk
      exact h e
    · simp only [h, and_false, if_false]

end Cert.TokenFill
-- ==== Proof.Precondition.lean ====
/- The precondition read at an index: no token id lies in `[-1000, -1]`. -/
module

public import proofs.«01_k».proof.Proof.Gen.Pre_ids_unwrapped
public import proofs.«01_k».proof.Proof.Words
public import Idealize.ShloMosaic.Lib.Pointwise

@[expose] public section

namespace Cert.TokenFill

open Idealize.ShloMosaic Cert.Pre_ids_unwrapped Cert.Pre_ids_unwrapped.Gen

/-- Where the precondition holds of the arguments, every token id is outside `[-1000, -1]`. -/
theorem unwrapped_of_pre (ids : IVec S32x2048 32) (mask : IVec S32x2048 1) (fill : FVec Ideal S2 .f32)
    (h : fn (F := Ideal) ids mask fill = fun _ => 1#1) (i : S32x2048.Idx) : Unwrapped (ids i) := by
  have e : IntOp.ori (IntOp.cmpi .sge (ids i) 0#32) (IntOp.cmpi .slt (ids i) 4294966296#32) = 1#1 := congrFun h i
  have e' : BitVec.ofBool ((0#32 : BitVec 32).sle (ids i)) ||| BitVec.ofBool ((ids i).slt 4294966296#32) = 1#1 := e
  rw [BitVec.sle_eq_decide, BitVec.slt_eq_decide] at e'
  by_cases h0 : (0#32 : BitVec 32).toInt ≤ (ids i).toInt
  · exact Or.inl h0
  · by_cases h1 : (ids i).toInt < (4294966296#32 : BitVec 32).toInt
    · exact Or.inr h1
    · rw [decide_eq_false h0, decide_eq_false h1] at e'
      exact absurd e' (by decide)

end Cert.TokenFill
-- ==== Proof.lean ====
module

public import proofs.«01_k».proof.Defs
public import proofs.«01_k».proof.Proof.KernelValue
public import proofs.«01_k».proof.Proof.ReferenceValue
public import proofs.«01_k».proof.Proof.Precondition
public import proofs.«01_k».proof.Proof.Gen.KernelIdeal.Value
public import proofs.«01_k».proof.Proof.Gen.ReferenceIdeal.Run
public import proofs.«01_k».proof.Proof.Gen.Pre_ids_unwrapped
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Lib.Quiescent

@[expose] public section

noncomputable section

namespace Cert.Proof

open Idealize.ShloMosaic Idealize.ShloMosaic.TcCoe Idealize.SL.Sem

/-- The kernel as compiled, at any float values: it returns, with its arguments as they were. -/
theorem frame_kernel : Cert.quiescent_Kernel := fun m ρ _ => Cert.Kernel.Gen.frame m ρ

/-- The same of the kernel at exact arithmetic. -/
theorem frame_ideal : Cert.quiescent_KernelIdeal := fun m ρ _ => Cert.KernelIdeal.Gen.frame m ρ

/-- The same of the reference at exact arithmetic, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From arguments with no token id in `[-1000, -1]`, the kernel and the reference return the same array. -/
theorem same_result : Cert.algebraic_KernelIdeal_ReferenceIdeal_pre_ids_unwrapped := by
  intro m g m' g' hpre hagree
  refine ⟨fun c => (Cert.KernelIdeal.Gen.dats m 0 c).arrAt 4 Cert.KernelIdeal.cfg0.N, Cert.KernelIdeal.Value.run_blocks (F := Ideal) m g,
    (θ_run Cert.ReferenceIdeal.defs _ _).mono (fun r h c => ⟨(h c).1.trans ?_, (h c).2⟩) (Cert.ReferenceIdeal.Value.run (F := Ideal) m' g')⟩
  obtain ⟨h0, h1, h2⟩ := hagree c
  refine (Cert.TokenFill.reference_eq m' c fun i => ?_).trans (Eq.trans ?_ (Cert.TokenFill.array_eq m c).symm)
  · rw [h0]
    exact Cert.TokenFill.unwrapped_of_pre _ _ _ (hpre c) i
  · rw [h0, h1, h2]

/-- Everything that the certificate claims. -/
theorem claim : Cert.Claim :=
  ⟨Cert.Kernel.Gen.facts, Cert.KernelIdeal.Gen.facts, Cert.ReferenceIdeal.Gen.facts, Cert.Pre_ids_unwrapped.Gen.facts,
    frame_kernel, frame_ideal, fun m ρ _ => frame_ideal m ρ trivial, frame_reference, fun m ρ _ => frame_reference m ρ trivial, trivial,
    same_result⟩

end Cert.Proof

end
